-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_abstention [hPre_no_abstention : Cert.Pre_no_abstention.Facts] (m : (ℓ : Loc Cert.KernelIdeal.nD Cert.KernelIdeal.τ Cert.KernelIdeal.sig) → Buf (Elt Ideal) ℓ) : Prop :=
  ∀ c : Dev Cert.KernelIdeal.nD,
    (Cert.Pre_no_abstention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_abstention [hPre_no_abstention : Cert.Pre_no_abstention.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_abstention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_no_abstention [hKernelIdeal : Cert.KernelIdeal.Facts] [hPre_no_abstention : Cert.Pre_no_abstention.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_abstention m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_no_abstention [hReferenceIdeal : Cert.ReferenceIdeal.Facts] [hPre_no_abstention : Cert.Pre_no_abstention.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_abstention m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.sign_bit.Statement Cert.KernelIdeal.S104x32768 .f32

def algebraic_KernelIdeal_ReferenceIdeal_pre_no_abstention [hKernelIdeal : Cert.KernelIdeal.Facts] [hReferenceIdeal : Cert.ReferenceIdeal.Facts] [hPre_no_abstention : Cert.Pre_no_abstention.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_abstention m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_no_abstention : Cert.Pre_no_abstention.Facts),
    quiescent_Kernel (hKernel := hKernel)
    ∧ quiescent_KernelIdeal (hKernelIdeal := hKernelIdeal)
    ∧ quiescent_KernelIdeal_pre_no_abstention (hKernelIdeal := hKernelIdeal) (hPre_no_abstention := hPre_no_abstention)
    ∧ quiescent_ReferenceIdeal (hReferenceIdeal := hReferenceIdeal)
    ∧ quiescent_ReferenceIdeal_pre_no_abstention (hReferenceIdeal := hReferenceIdeal) (hPre_no_abstention := hPre_no_abstention)
    ∧ preserves_Kernel_KernelIdeal
    ∧ algebraic_KernelIdeal_ReferenceIdeal_pre_no_abstention (hKernelIdeal := hKernelIdeal) (hReferenceIdeal := hReferenceIdeal) (hPre_no_abstention := hPre_no_abstention)
-- ==== Pre_no_abstention.lean ====
abbrev S262144x64 : Shape := ⟨2, ![262144, 64]⟩
abbrev S64x100 : Shape := ⟨2, ![64, 100]⟩
abbrev S10x100 : Shape := ⟨2, ![10, 100]⟩
abbrev S262144x100 : Shape := ⟨2, ![262144, 100]⟩
abbrev S_ : Shape := ⟨0, ![]⟩

class Facts : Prop where
  bcast_S_S262144x100 : S_.BroadcastsInDim S262144x100 (![] : Fin 0 → Fin S262144x100.rank)
  dot_S262144x64_S64x100_S262144x100_1_0_0_1_n_n_wf : DotDims.WF S262144x64 S64x100 S262144x100 [1] [0] [0] [1] [] []

variable [Facts]

def dot_S262144x64_S64x100_S262144x100_1_0_0_1_n_n : DotDims S262144x64 S64x100 S262144x100 where
  lhsContracting := [1]
  rhsContracting := [0]
  lhsNonContracting := [0]
  rhsNonContracting := [1]
  lhsBatch := []
  rhsBatch := []
  wf := dot_S262144x64_S64x100_S262144x100_1_0_0_1_n_n_wf
def fn {F : FTy → Type} [FloatOps F] (main_arg0 : FVec F S262144x64 .f32) (main_arg1 : FVec F S64x100 .f32) (main_arg2 : FVec F S10x100 .f32) : IVec S262144x100 1 :=
  let main_v0 : FVec F S262144x100 .f32 := (fun l r => Host.dotGeneral dot_S262144x64_S64x100_S262144x100_1_0_0_1_n_n none l r) main_arg0 main_arg1
  let main_cst : FVec F S_ .f32 := constant S_ .f32 0x00000000#32
  let main_v1 : FVec F S262144x100 .f32 := broadcastInDim S262144x100 ![] bcast_S_S262144x100 main_cst
  let main_v2 : IVec S262144x100 1 := cmpf .une main_v0 main_v1
  main_v2
-- ==== Kernel.lean ====
abbrev S262144x64 : Shape := ⟨2, ![262144, 64]⟩
abbrev S64x100 : Shape := ⟨2, ![64, 100]⟩
abbrev S10x100 : Shape := ⟨2, ![10, 100]⟩
abbrev S2x16 : Shape := ⟨2, ![2, 16]⟩
abbrev S64x262144 : Shape := ⟨2, ![64, 262144]⟩
abbrev S_ : Shape := ⟨0, ![]⟩
abbrev S104x64 : Shape := ⟨2, ![104, 64]⟩
abbrev S100x64 : Shape := ⟨2, ![100, 64]⟩
abbrev S1 : Shape := ⟨1, ![1]⟩
abbrev S16x104 : Shape := ⟨2, ![16, 104]⟩
abbrev S2 : Shape := ⟨1, ![2]⟩
abbrev S2x262144 : Shape := ⟨2, ![2, 262144]⟩
abbrev S262144x2 : Shape := ⟨2, ![262144, 2]⟩
abbrev S64x32768 : Shape := ⟨2, ![64, 32768]⟩
abbrev S2x32768 : Shape := ⟨2, ![2, 32768]⟩
abbrev S104x32768 : Shape := ⟨2, ![104, 32768]⟩
abbrev S16x32768 : Shape := ⟨2, ![16, 32768]⟩

abbrev nBuf : Space → Nat
  | .hbm => 24
  | .vmem => 7
  | .smem => 0
  | _ => 0

abbrev bufTy : (tb : Table) → Fin (tcTables nBuf tb) → BufTy
  | .hbm, ⟨0, _⟩ => ⟨S262144x64, .f32⟩
  | .hbm, ⟨1, _⟩ => ⟨S64x100, .f32⟩
  | .hbm, ⟨2, _⟩ => ⟨S10x100, .f32⟩
  | .hbm, ⟨3, _⟩ => ⟨S2x16, .f32⟩
  | .hbm, ⟨4, _⟩ => ⟨S64x262144, .f32⟩
  | .hbm, ⟨5, _⟩ => ⟨S_, .f32⟩
  | .hbm, ⟨6, _⟩ => ⟨S104x64, .f32⟩
  | .hbm, ⟨7, _⟩ => ⟨S100x64, .f32⟩
  | .hbm, ⟨8, _⟩ => ⟨S_, .i32⟩
  | .hbm, ⟨9, _⟩ => ⟨S1, .i32⟩
  | .hbm, ⟨10, _⟩ => ⟨S104x64, .f32⟩
  | .hbm, ⟨11, _⟩ => ⟨S_, .f32⟩
  | .hbm, ⟨12, _⟩ => ⟨S16x104, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S16x104, .f32⟩
  | .hbm, ⟨19, _⟩ => ⟨S_, .f32⟩
  | .hbm, ⟨20, _⟩ => ⟨S2x16, .f32⟩
  | .hbm, ⟨21, _⟩ => ⟨S2x16, .f32⟩
  | .hbm, ⟨22, _⟩ => ⟨S2x262144, .f32⟩
  | .hbm, ⟨23, _⟩ => ⟨S262144x2, .f32⟩
  | .local _ .vmem, ⟨0, _⟩ => ⟨S64x32768, .f32⟩
  | .local _ .vmem, ⟨1, _⟩ => ⟨S64x32768, .f32⟩
  | .local _ .vmem, ⟨2, _⟩ => ⟨S104x64, .f32⟩
  | .local _ .vmem, ⟨3, _⟩ => ⟨S16x104, .f32⟩
  | .local _ .vmem, ⟨4, _⟩ => ⟨S2x16, .f32⟩
  | .local _ .vmem, ⟨5, _⟩ => ⟨S2x32768, .f32⟩
  | .local _ .vmem, ⟨6, _⟩ => ⟨S2x32768, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_c : Ref sig .tc := ⟨.hbm, 8, rfl⟩
abbrev main_call0_v3 : Ref sig .tc := ⟨.hbm, 9, rfl⟩
abbrev main_call0_v4 : Ref sig .tc := ⟨.hbm, 10, rfl⟩
abbrev main_call0_cst_1 : Ref sig .tc := ⟨.hbm, 11, rfl⟩
abbrev main_call0_v5 : Ref sig .tc := ⟨.hbm, 12, rfl⟩
abbrev main_call0_c_2 : Ref sig .tc := ⟨.hbm, 13, rfl⟩
abbrev main_call0_v6 : Ref sig .tc := ⟨.hbm, 14, rfl⟩
abbrev main_call0_c_3 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_cst_4 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S104x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x104 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S262144x64 : Shape := ⟨2, ![262144, 64]⟩
abbrev S64x100 : Shape := ⟨2, ![64, 100]⟩
abbrev S10x100 : Shape := ⟨2, ![10, 100]⟩
abbrev S262144x100 : Shape := ⟨2, ![262144, 100]⟩
abbrev S100x262144 : Shape := ⟨2, ![100, 262144]⟩
abbrev S10x262144 : Shape := ⟨2, ![10, 262144]⟩
abbrev S262144x10 : Shape := ⟨2, ![262144, 10]⟩
abbrev S_ : Shape := ⟨0, ![]⟩
abbrev S262144x10x1 : Shape := ⟨3, ![262144, 10, 1]⟩
abbrev S2 : Shape := ⟨1, ![2]⟩
abbrev S1x1x2 : Shape := ⟨3, ![1, 1, 2]⟩
abbrev S262144x10x2 : Shape := ⟨3, ![262144, 10, 2]⟩
abbrev S262144x2 : Shape := ⟨2, ![262144, 2]⟩

abbrev nBuf : Space → Nat
  | .hbm => 33
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S64x100, .f32⟩
  | .hbm, ⟨2, _⟩ => ⟨S10x100, .f32⟩
  | .hbm, ⟨3, _⟩ => ⟨S262144x100, .f32⟩
  | .hbm, ⟨4, _⟩ => ⟨S262144x100, .f32⟩
  | .hbm, ⟨5, _⟩ => ⟨S100x262144, .f32⟩
  | .hbm, ⟨6, _⟩ => ⟨S10x262144, .f32⟩
  | .hbm, ⟨7, _⟩ => ⟨S10x262144, .f32⟩
  | .hbm, ⟨8, _⟩ => ⟨S262144x10, .f32⟩
  | .hbm, ⟨9, _⟩ => ⟨S_, .f32⟩
  | .hbm, ⟨10, _⟩ => ⟨S262144x10, .f32⟩
  | .hbm, ⟨11, _⟩ => ⟨S262144x10, .f32⟩
  | .hbm, ⟨12, _⟩ => ⟨S262144x10, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S262144x10, .f32⟩
  | .hbm, ⟨17, _⟩ => ⟨S262144x10, .f32⟩
  | .hbm, ⟨18, _⟩ => ⟨S_, .f32⟩
  | .hbm, ⟨19, _⟩ => ⟨S262144x10, .f32⟩
  | .hbm, ⟨20, _⟩ => ⟨S262144x10, .f32⟩
  | .hbm, ⟨21, _⟩ => ⟨S262144x10x1, .f32⟩
  | .hbm, ⟨22, _⟩ => ⟨S2, .f32⟩
  | .hbm, ⟨23, _⟩ => ⟨S1x1x2, .f32⟩
  | .hbm, ⟨24, _⟩ => ⟨S262144x10x2, .f32⟩
  | .hbm, ⟨25, _⟩ => ⟨S262144x10x2, .f32⟩
  | .hbm, ⟨26, _⟩ => ⟨S262144x10x2, .i1⟩
  | .hbm, ⟨27, _⟩ => ⟨S262144x10x2, .f32⟩
  | .hbm, ⟨28, _⟩ => ⟨S_, .f32⟩
  | .hbm, ⟨29, _⟩ => ⟨S262144x2, .f32⟩
  | .hbm, ⟨30, _⟩ => ⟨S_, .f32⟩
  | .hbm, ⟨31, _⟩ => ⟨S262144x2, .f32⟩
  | .hbm, ⟨32, _⟩ => ⟨S262144x2, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== Proof.Hist.lean ====
module

public import Idealize.ShloMosaic.Lib.Pointwise

@[expose] public section

/-! The mathematics both programs compute, on extended reals: the score of a sample at a weight column, its vote, the
    label of a sample at a threshold row, and the side of zero a label lies on. -/

noncomputable section

open Idealize.ShloMosaic
open scoped BigOperators

namespace Cert.Hist

/-- The samples' features. -/
abbrev X := FVec Ideal ⟨2, ![262144, 64]⟩ .f32
/-- The weights. -/
abbrev Wt := FVec Ideal ⟨2, ![64, 100]⟩ .f32
/-- The thresholds. -/
abbrev Th := FVec Ideal ⟨2, ![10, 100]⟩ .f32

/-- The score of sample `n` at weight column `v`: their inner product. -/
def score (x : X) (w : Wt) (n : Fin 262144) (v : Fin 100) : EReal := ∑ d : Fin 64, x (ix2 n d) * w (ix2 d v)

/-- The vote of a score: minus one below zero, one from zero on. -/
def vote (s : EReal) : EReal := if s < 0 then -1 else 1

/-- The label of sample `n` at threshold row `r`: the thresholds' sum, each with the sign of its vote. -/
def label (x : X) (w : Wt) (th : Th) (n : Fin 262144) (r : Fin 10) : EReal :=
  ∑ v : Fin 100, th (ix2 r v) * vote (score x w n v)

/-- The side of zero a label lies on: one from zero on, zero below. -/
def side (l : EReal) : EReal := if 0 ≤ l then 1 else 0

/-- The share of sample `n`'s labels in the upper bin: a tenth for each label from zero on. -/
def upper (x : X) (w : Wt) (th : Th) (n : Fin 262144) : EReal :=
  ∑ r : Fin 10, (((1 / 10 : ℝ)) : EReal) * side (label x w th n r)

/-- The share of sample `n`'s labels in the lower bin: one, less a tenth for each label from zero on. -/
def lower (x : X) (w : Wt) (th : Th) (n : Fin 262144) : EReal :=
  (∑ r : Fin 10, ((-(1 / 10) : ℝ) : EReal) * side (label x w th n r)) + 1

end Cert.Hist

end
-- ==== Proof.Payload.lean ====
module

public import proofs.«01_k».proof.Proof.Gen.KernelIdeal.Skeleton
public import proofs.«01_k».proof.Proof.Hist
public import Idealize.ShloMosaic.Lib.Pointwise

@[expose] public section

/-! What one grid point stores, entry by entry. -/

set_option maxRecDepth 16384

noncomputable section

open Idealize.ShloMosaic
open scoped BigOperators

namespace Cert.KernelIdeal.Block

open Cert.KernelIdeal Cert.KernelIdeal.Gen Cert.Hist

/-- The pattern the kernel votes with below zero denotes minus one. -/
theorem bits_neg_one : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]; norm_num

/-- Entry `(b, c)` of the block a point stores: over the rows of the threshold table, the counting table's entry times
    the side of zero on which column `c`'s sum of signed thresholds lies. -/
theorem pay_apply (wt : FVec Ideal S104x64 .f32) (xt : FVec Ideal S64x32768 .f32) (th : FVec Ideal S16x104 .f32)
    (tab : FVec Ideal S2x16 .f32) (b : Fin 2) (c : Fin 32768) :
    k0_pay1 (F := Ideal) wt xt th tab (ix2 b c)
      = ∑ r : Fin 16, tab (ix2 b r) * side (∑ v : Fin 104, th (ix2 r v) * vote (∑ d : Fin 64, wt (ix2 v d) * xt (ix2 d c))) := by
  pointwise [k0_pay1, bits_neg_one]
  rfl

end Cert.KernelIdeal.Block

end
-- ==== Proof.Array.lean ====
module

public import proofs.«01_k».proof.Proof.Payload
public import proofs.«01_k».proof.Proof.Gen.KernelIdeal.Frame
public import Idealize.ShloMosaic.Lib.Pipeline.ValueKit

@[expose] public section

/-! What the launch's result array holds after the run, entry by entry, in terms of its four operand arrays. -/

set_option maxRecDepth 16384

noncomputable section

open Idealize.ShloMosaic Idealize.ShloMosaic.TcCoe Idealize.SL.Sem
open Idealize.ShloMosaic.Pipeline (Dat)
open scoped BigOperators

namespace Cert.KernelIdeal.Block

open Cert.KernelIdeal Cert.KernelIdeal.Gen Cert.Hist

variable (m : (ℓ : Loc nD τ sig) → Buf (Elt Ideal) ℓ)

/-- The launch's result as a function of its operand arrays: entry `(b, n)` counts, over the threshold table's rows, the
    sides of zero of sample `n`'s sums of signed thresholds. -/
def launched (xt : FVec Ideal S64x262144 .f32) (wt : FVec Ideal S104x64 .f32) (th : FVec Ideal S16x104 .f32)
    (tab : FVec Ideal S2x16 .f32) : FVec Ideal S2x262144 .f32 := fun i =>
  ∑ r : Fin 16, tab (ix2 (i 0) r) * side (∑ v : Fin 104, th (ix2 r v) * vote (∑ d : Fin 64, wt (ix2 v d) * xt (ix2 d (i 1))))

/-- Each window's block index at each point: the features and the result move along their columns, the tables stay. -/
theorem idx : ∀ t : Fin cfg0.N, win0_0.index t = ![0, t.val] ∧ win0_1.index t = ![0, 0] ∧ win0_2.index t = ![0, 0]
    ∧ win0_3.index t = ![0, 0] ∧ win0_4.index t = ![0, t.val] :=
  (by decide +kernel : ∀ t : Fin grid0.N, _)

/-- What a point stores at a block index is the launch's result at the array index the block index sits at. -/
theorem point (c : Dev nD) (t : Fin cfg0.N) (y : S2x32768.Idx) :
    k0_pay1 (F := Ideal) (iblk m c 1 t) (iblk m c 0 t) (iblk m c 2 t) (iblk m c 3 t) y
      = launched (V m c main_call0_v0) (V m c main_call0_v4) (V m c main_call0_v9) (V m c main_call0_v11)
          (((cfg0.win 4).blk t).view.emb y) := by
  obtain ⟨b, q, rfl⟩ : ∃ (b : Fin 2) (q : Fin 32768), y = ix2 b q := ⟨y 0, y 1, by funext a; match a with | ⟨0, _⟩ => rfl | ⟨1, _⟩ => rfl⟩
  rw [pay_apply]
  unfold launched side vote
  blk_point [iblk, idx t]

/-- The launch's result array after the run. -/
theorem final (c : Dev nD) : (dats m 0 c).arrAt 4 (cfgs 0).N
    = launched (V m c main_call0_v0) (V m c main_call0_v4) (V m c main_call0_v9) (V m c main_call0_v11) := by
  refine (dats m 0 c).arrAt_eq_of_covers 4 _ (by decide +kernel) fun t _ y => ?_
  blk_simp
  rw [after0_4]; frame_out
  exact point m c t y

end Cert.KernelIdeal.Block

end
-- ==== Proof.Run.lean ====
module

public import proofs.«01_k».proof.Proof.Array

@[expose] public section

/-! The kernel's run, read at its result and at its arguments. -/

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.Hist

variable (m : (ℓ : Loc nD τ sig) → Buf (Elt Ideal) ℓ) (ρ : Dev nD → PrngReg)

/-- The kernel's result: the launch's result, transposed. -/
def result (c : Dev nD) : FVec Ideal S262144x2 .f32 :=
  transpose S262144x2 [1, 0]
    (launched (V m c main_call0_v0) (V m c main_call0_v4) (V m c main_call0_v9) (V m c main_call0_v11)) transposes_S2x262144_S262144x2_1_0

/-- The host line after the launch leaves the transposed launch's result in the kernel's result. -/
theorem tail (c : Dev nD) : Pipeline.afterTail₀ cfgs (dats m) 0 (V0 m) [hostOps1] c main_v0 = result m c := by
  have h : Pipeline.withArrays (τ := τ) spec0 c (V0 m c) (fun w => (dats m 0 c).arrAt w (cfgs 0).N) (Proc.devRef .tc main_call0_v12)
      = launched (V m c main_call0_v0) (V m c main_call0_v4) (V m c main_call0_v9) (V m c main_call0_v11) :=
    (Pipeline.withArrays_arr (τ := τ) spec0 (by decide) c (V0 m c) (fun w => (dats m 0 c).arrAt w (cfgs 0).N) 4).trans (final m c)
  unfold Pipeline.afterTail₀ result
  rw [← h]
  simp only [hostOps1, List.flatten_cons, List.flatten_nil, List.append_nil, StableHlo.TRef.unary, StableHlo.TRef.toBuf, StableHlo.TRef.ofBuf, cast_eq]
  after_results

/-- Every run ends with the kernel's result at `result` and its arguments as launched. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Block

end
-- ==== Proof.Entry.lean ====
module

public import proofs.«01_k».proof.Proof.Gen.KernelIdeal.Frame
public import Idealize.ShloMosaic.Lib.Pointwise
public import Idealize.ShloMosaic.Lib.Pipeline.ValueKit

@[expose] public section

/-! What the kernel's four operand arrays hold when its launch begins: the arrays the host lines before the launch
    compute from the arguments, as composed terms. -/

set_option maxRecDepth 16384

noncomputable section

open Idealize.ShloMosaic Idealize.ShloMosaic.TcCoe Idealize.SL.Sem

namespace Cert.KernelIdeal.Entry

open Cert.KernelIdeal Cert.KernelIdeal.Gen

variable (m : (ℓ : Loc nD τ sig) → Buf (Elt Ideal) ℓ)

/-- The launch's first operand, the features. -/
abbrev opX (c : Dev nD) : FVec Ideal S64x262144 .f32 := V m c main_call0_v0
/-- Its second operand, the weight table. -/
abbrev opW (c : Dev nD) : FVec Ideal S104x64 .f32 := V m c main_call0_v4
/-- Its third operand, the threshold table. -/
abbrev opT (c : Dev nD) : FVec Ideal S16x104 .f32 := V m c main_call0_v9
/-- Its fourth operand, the counting table. -/
abbrev opC (c : Dev nD) : FVec Ideal S2x16 .f32 := V m c main_call0_v11

/-- The features, transposed. -/
theorem V_xt (c : Dev nD) : opX m c
    = transpose S64x262144 [1, 0] (m ((c : Thread nD τ).loc main_arg0) : FVec Ideal S262144x64 .f32) transposes_S262144x64_S64x262144_1_0 := by
  unfold opX V V0
  simp only [hostOps0, List.flatten_cons, List.flatten_nil, List.append_nil, StableHlo.TRef.binary, StableHlo.TRef.unary, StableHlo.TRef.nullary,
    StableHlo.TRef.ternary, StableHlo.TRef.toBuf, StableHlo.TRef.ofBuf, cast_eq]
  after_results

/-- The weight table: `W` transposed and set into a table of zeros of four more rows, at row 0. -/
theorem V_w (c : Dev nD) : opW m c
    = Host.scatter scatter_S104x64_S1_S100x64_01_n_0_0 (fun _ b => b)
        (broadcastInDim S104x64 ![] bcast_S_S104x64 (constant (F := Ideal) S_ .f32 0x00000000#32))
        (broadcastInDim S1 ![] bcast_S_S1 (constantI S_ 32 0#32))
        (transpose S100x64 [1, 0] (m ((c : Thread nD τ).loc main_arg1) : FVec Ideal S64x100 .f32) transposes_S64x100_S100x64_1_0) := by
  unfold opW V V0
  simp only [hostOps0, List.flatten_cons, List.flatten_nil, List.append_nil, StableHlo.TRef.binary, StableHlo.TRef.unary, StableHlo.TRef.nullary,
    StableHlo.TRef.ternary, StableHlo.TRef.toBuf, StableHlo.TRef.ofBuf, cast_eq]
  after_results

/-- The threshold table: the thresholds set into a table of zeros of six more rows and four more columns, at row 0 and column 0. -/
theorem V_th (c : Dev nD) : opT m c
    = Host.scatter scatter_S16x104_S2_S10x100_01_n_01_0 (fun _ b => b)
        (broadcastInDim S16x104 ![] bcast_S_S16x104 (constant (F := Ideal) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        (m ((c : Thread nD τ).loc main_arg2) : FVec Ideal S10x100 .f32) := by
  unfold opT V V0
  simp only [hostOps0, List.flatten_cons, List.flatten_nil, List.append_nil, StableHlo.TRef.binary, StableHlo.TRef.unary, StableHlo.TRef.nullary,
    StableHlo.TRef.ternary, StableHlo.TRef.toBuf, StableHlo.TRef.ofBuf, cast_eq]
  after_results

/-- The counting table: the literal numerators over ten. -/
theorem V_tab (c : Dev nD) : opC m c
    = Host.divf (fun i => FloatOps.ofBits .f32 (lit0 (S2x16.rowMajor i)))
        (broadcastInDim S2x16 ![] bcast_S_S2x16 (constant (F := Ideal) S_ .f32 0x41200000#32)) := by
  unfold opC V V0
  simp only [hostOps0, List.flatten_cons, List.flatten_nil, List.append_nil, StableHlo.TRef.binary, StableHlo.TRef.unary, StableHlo.TRef.nullary,
    StableHlo.TRef.ternary, StableHlo.TRef.toBuf, StableHlo.TRef.ofBuf, cast_eq]
  after_results

end Cert.KernelIdeal.Entry

end
-- ==== Proof.Tables.lean ====
module

public import proofs.«01_k».proof.Proof.Entry
public import Idealize.ShloMosaic.Lib.Routing.OpsSet
public import Idealize.ShloMosaic.Lib.Routing.OpsOne

@[expose] public section

/-! The kernel's operand arrays read at an index. -/

set_option maxRecDepth 16384

noncomputable section

open Idealize.ShloMosaic Idealize.ShloMosaic.TcCoe Idealize.SL.Sem

namespace Cert.KernelIdeal.Tables

open Cert.KernelIdeal Cert.KernelIdeal.Gen Cert.KernelIdeal.Entry

/-- Update `(a, b)` of the weight scatter lands at row `a`, column `b`, its one index word being zero. -/
theorem w_lands (idx : IVec S1 32) (h : ∀ i, idx i = 0#32) (k : S100x64.Idx) (r : Fin 104) (d : Fin 64) :
    scatter_S104x64_S1_S100x64_01_n_0_0.resultIdx? k idx = some (ix2 r d) ↔ (k 0).val = r.val ∧ (k 1).val = d.val := by
  have h0 : scatter_S104x64_S1_S100x64_01_n_0_0.start k idx 0 = 0 := by
    unfold ScatterDims.start
    rw [dif_pos (by decide), h]; rfl
  have h1 : scatter_S104x64_S1_S100x64_01_n_0_0.start k idx 1 = 0 := by
    unfold ScatterDims.start
    rw [dif_neg (by decide)]
  have w0 : scatter_S104x64_S1_S100x64_01_n_0_0.window k 0 = (k 0).val := rfl
  have w1 : scatter_S104x64_S1_S100x64_01_n_0_0.window k 1 = (k 1).val := rfl
  refine (Routing.resultIdx?_ix2 _ k idx r d).trans ?_
  rw [h0, h1, w0, w1]
  omega

/-- Update `(a, b)` of the threshold scatter lands at row `a`, column `b`, its two index words being zero. -/
theorem th_lands (idx : IVec S2 32) (h : ∀ i, idx i = 0#32) (k : S10x100.Idx) (r : Fin 16) (v : Fin 104) :
    scatter_S16x104_S2_S10x100_01_n_01_0.resultIdx? k idx = some (ix2 r v) ↔ (k 0).val = r.val ∧ (k 1).val = v.val := by
  have h0 : ∀ q, scatter_S16x104_S2_S10x100_01_n_01_0.start k idx q = 0 := fun q => by
    refine (Routing.start_pair _ rfl rfl idx k q).trans ?_
    rw [h]; rfl
  have w0 : scatter_S16x104_S2_S10x100_01_n_01_0.window k 0 = (k 0).val := rfl
  have w1 : scatter_S16x104_S2_S10x100_01_n_01_0.window k 1 = (k 1).val := rfl
  refine (Routing.resultIdx?_ix2 _ k idx r v).trans ?_
  rw [h0, h0, w0, w1]
  omega

variable (m : (ℓ : Loc nD τ sig) → Buf (Elt Ideal) ℓ)

/-- The transposed features at `(d, n)`. -/
theorem xt_apply (c : Dev nD) (d : Fin 64) (n : Fin 262144) :
    opX m c (ix2 d n) = (m ((c : Thread nD τ).loc main_arg0) : FVec Ideal S262144x64 .f32) (ix2 n d) := by
  rw [V_xt]
  pointwise

/-- The weight table at one of its first hundred rows. -/
theorem w_apply (c : Dev nD) (v : Fin 100) (d : Fin 64) :
    opW m c (ix2 (Fin.castAdd 4 v) d) = (m ((c : Thread nD τ).loc main_arg1) : FVec Ideal S64x100 .f32) (ix2 d v) := by
  rw [V_w]
  refine (Routing.scatter_set_hit _ _ _ _ _ ((transpose S100x64 [1, 0] (m ((c : Thread nD τ).loc main_arg1) : FVec Ideal S64x100 .f32) transposes_S64x100_S100x64_1_0) (ix2 v d))
    (fun k hk => ?_) (ix2 v d : S100x64.Idx) ?_).trans ?_
  · have e := (w_lands _ (fun _ => rfl) k _ d).1 hk
    refine congrArg _ (funext fun a => Fin.ext ?_)
    match a with
    | ⟨0, _⟩ => exact e.1
    | ⟨1, _⟩ => exact e.2
  · exact (w_lands _ (fun _ => rfl) _ _ d).2 ⟨rfl, rfl⟩
  · pointwise

/-- The threshold table at one of its first ten rows and first hundred columns. -/
theorem th_apply (c : Dev nD) (r : Fin 10) (v : Fin 100) :
    opT m c (ix2 (Fin.castAdd 6 r) (Fin.castAdd 4 v))
      = (m ((c : Thread nD τ).loc main_arg2) : FVec Ideal S10x100 .f32) (ix2 r v) := by
  rw [V_th]
  have hz : ∀ i, concatenate S2 0 [⟨S1, broadcastInDim S1 ![] bcast_S_S1 (constantI S_ 32 0#32)⟩, ⟨S1, broadcastInDim S1 ![] bcast_S_S1 (constantI S_ 32 0#32)⟩] concatenates_S1_S1_S2_d0 i = 0#32 := by
    decide
  refine Routing.scatter_set_hit _ _ _ _ _ _ (fun k hk => ?_) (ix2 r v : S10x100.Idx) ?_
  · have e := (th_lands _ hz k _ _).1 hk
    refine congrArg _ (funext fun a => Fin.ext ?_)
    match a with
    | ⟨0, _⟩ => exact e.1
    | ⟨1, _⟩ => exact e.2
  · exact (th_lands _ hz _ _ _).2 ⟨rfl, rfl⟩

/-- The threshold table past its first ten rows or first hundred columns: zero. -/
theorem th_pad (c : Dev nD) (r : Fin 16) (v : Fin 104) (h : 10 ≤ r.val ∨ 100 ≤ v.val) :
    opT m c (ix2 r v) = (0 : EReal) := by
  rw [V_th]
  have hz : ∀ i, concatenate S2 0 [⟨S1, broadcastInDim S1 ![] bcast_S_S1 (constantI S_ 32 0#32)⟩, ⟨S1, broadcastInDim S1 ![] bcast_S_S1 (constantI S_ 32 0#32)⟩] concatenates_S1_S1_S2_d0 i = 0#32 := by
    decide
  refine (Routing.scatter_set_miss _ _ _ _ _ fun k hk => ?_).trans ?_
  · have e := (th_lands _ hz k _ _).1 hk
    have h0 : (k 0).val < 10 := (k 0).isLt
    have h1 : (k 1).val < 100 := (k 1).isLt
    omega
  · pointwise

end Cert.KernelIdeal.Tables

end
-- ==== Proof.Counting.lean ====
module

public import proofs.«01_k».proof.Proof.Entry
public import proofs.«01_k».proof.Proof.Payload

@[expose] public section

/-! The counting table read at an index: minus a tenth, one and a tenth where they count, zero elsewhere. -/

set_option maxRecDepth 16384

noncomputable section

open Idealize.ShloMosaic Idealize.ShloMosaic.TcCoe Idealize.SL.Sem

namespace Cert.KernelIdeal.Tables

open Cert.KernelIdeal Cert.KernelIdeal.Gen Cert.KernelIdeal.Entry

/-- The divisor's pattern denotes ten. -/
theorem bits_ten : Ideal.ofBits .f32 0x41200000#32 = ((10 : ℝ) : EReal) := by
  simp [Ideal.ofBits, Ideal.ieee, -EReal.coe_mul]; norm_num

/-- Division of a real by ten. -/
theorem div_ten (a : ℝ) : Ideal.div (a : EReal) ((10 : ℝ) : EReal) = ((a / 10 : ℝ) : EReal) := by
  unfold Ideal.div
  rw [if_neg (by norm_num), ← EReal.coe_inv, ← EReal.coe_mul, div_eq_mul_inv]

variable (m : (ℓ : Loc nD τ sig) → Buf (Elt Ideal) ℓ)

/-- An entry of the counting table is the literal numerator there over ten. -/
theorem tab_apply (c : Dev nD) (b : Fin 2) (r : Fin 16) :
    opC m c (ix2 b r)
      = Ideal.div (Ideal.ofBits .f32 (lit0 (S2x16.rowMajor (ix2 b r)))) ((10 : ℝ) : EReal) := by
  rw [V_tab]
  pointwise [bits_ten]

/-- Row 0's numerators at the ten threshold rows are minus one, row 1's are one. -/
theorem lit_rows : (∀ r : Fin 10, lit0 (S2x16.rowMajor (ix2 (0 : Fin 2) (Fin.castAdd 6 r))) = 0xBF800000#32)
    ∧ (∀ r : Fin 10, lit0 (S2x16.rowMajor (ix2 (1 : Fin 2) (Fin.castAdd 6 r))) = 0x3F800000#32)
    ∧ lit0 (S2x16.rowMajor (ix2 (0 : Fin 2) (Fin.natAdd 10 (0 : Fin 6)))) = 0x41200000#32
    ∧ (∀ r : Fin 5, lit0 (S2x16.rowMajor (ix2 (0 : Fin 2) (Fin.natAdd 10 r.succ))) = 0x00000000#32)
    ∧ (∀ r : Fin 6, lit0 (S2x16.rowMajor (ix2 (1 : Fin 2) (Fin.natAdd 10 r))) = 0x00000000#32) := by
  decide +kernel

/-- Row 0 at a threshold row: minus a tenth. -/
theorem tab_lower (c : Dev nD) (r : Fin 10) :
    opC m c (ix2 (0 : Fin 2) (Fin.castAdd 6 r)) = ((-(1 / 10) : ℝ) : EReal) := by
  rw [tab_apply, lit_rows.1 r, Block.bits_neg_one, show (-1 : EReal) = ((-1 : ℝ) : EReal) by rw [EReal.coe_neg, EReal.coe_one], div_ten]
  norm_num

/-- Row 1 at a threshold row: a tenth. -/
theorem tab_upper (c : Dev nD) (r : Fin 10) :
    opC m c (ix2 (1 : Fin 2) (Fin.castAdd 6 r)) = ((1 / 10 : ℝ) : EReal) := by
  rw [tab_apply, lit_rows.2.1 r, Ideal.ofBits_one_f32, show (1 : EReal) = ((1 : ℝ) : EReal) from EReal.coe_one.symm, div_ten]

/-- Row 0 at the first padded row: one. -/
theorem tab_one (c : Dev nD) : opC m c (ix2 (0 : Fin 2) (Fin.natAdd 10 (0 : Fin 6))) = (1 : EReal) := by
  rw [tab_apply, lit_rows.2.2.1, bits_ten, div_ten, div_self (by norm_num), EReal.coe_one]

/-- Row 0 past the first padded row: zero. -/
theorem tab_lower_pad (c : Dev nD) (r : Fin 5) :
    opC m c (ix2 (0 : Fin 2) (Fin.natAdd 10 r.succ)) = (0 : EReal) := by
  rw [tab_apply, lit_rows.2.2.2.1 r, Ideal.ofBits_zero_f32, show (0 : EReal) = ((0 : ℝ) : EReal) from EReal.coe_zero.symm, div_ten, zero_div]

/-- Row 1 at the padded rows: zero. -/
theorem tab_upper_pad (c : Dev nD) (r : Fin 6) :
    opC m c (ix2 (1 : Fin 2) (Fin.natAdd 10 r)) = (0 : EReal) := by
  rw [tab_apply, lit_rows.2.2.2.2 r, Ideal.ofBits_zero_f32, show (0 : EReal) = ((0 : ℝ) : EReal) from EReal.coe_zero.symm, div_ten, zero_div]

end Cert.KernelIdeal.Tables

end
-- ==== Proof.KernelValue.lean ====
module

public import proofs.«01_k».proof.Proof.Run
public import proofs.«01_k».proof.Proof.Tables
public import proofs.«01_k».proof.Proof.Counting

@[expose] public section

/-! The kernel's result, entry by entry, as a function of the arguments: the padding of the tables falls away. -/

set_option maxRecDepth 16384

noncomputable section

open Idealize.ShloMosaic Idealize.ShloMosaic.TcCoe Idealize.SL.Sem
open scoped BigOperators

namespace Cert.KernelIdeal.Block

open Cert.KernelIdeal Cert.KernelIdeal.Gen Cert.KernelIdeal.Entry Cert.KernelIdeal.Tables Cert.Hist

variable (m : (ℓ : Loc nD τ sig) → Buf (Elt Ideal) ℓ)

/-- The features, device `c`'s first argument. -/
abbrev argX (c : Dev nD) : X := m ((c : Thread nD τ).loc main_arg0)
/-- The weights, its second argument. -/
abbrev argW (c : Dev nD) : Wt := m ((c : Thread nD τ).loc main_arg1)
/-- The thresholds, its third argument. -/
abbrev argT (c : Dev nD) : Th := m ((c : Thread nD τ).loc main_arg2)

/-- The kernel's sum of signed thresholds of sample `n` at row `r` of the padded threshold table. -/
def padLabel (xt : FVec Ideal S64x262144 .f32) (wt : FVec Ideal S104x64 .f32) (th : FVec Ideal S16x104 .f32) (n : Fin 262144) (r : Fin 16) : EReal :=
  ∑ v : Fin 104, th (ix2 r v) * vote (∑ d : Fin 64, wt (ix2 v d) * xt (ix2 d n))

/-- At one of the ten threshold rows it is the sample's label: the four padded columns hold zero. -/
theorem padLabel_row (c : Dev nD) (n : Fin 262144) (r : Fin 10) :
    padLabel (opX m c) (opW m c) (opT m c) n (Fin.castAdd 6 r) = label (argX m c) (argW m c) (argT m c) n r := by
  unfold padLabel label
  rw [Fin.sum_univ_add (a := 100) (b := 4)]
  have hp : ∀ v : Fin 4, opT m c (ix2 (Fin.castAdd 6 r) (Fin.natAdd 100 v)) = (0 : EReal) := fun v =>
    th_pad m c _ _ (.inr (Nat.le_add_right 100 v.val))
  have hs : ∀ v : Fin 100, (∑ d : Fin 64, opW m c (ix2 (Fin.castAdd 4 v) d) * opX m c (ix2 d n))
      = score (argX m c) (argW m c) n v := fun v => by
    unfold score
    refine Finset.sum_congr rfl fun d _ => ?_
    rw [w_apply, xt_apply, mul_comm]
  rw [Finset.sum_eq_zero (s := (Finset.univ : Finset (Fin 4))) fun v _ => by rw [hp v, zero_mul], add_zero]
  exact Finset.sum_congr rfl fun v _ => by rw [hs v, th_apply]

/-- At a padded row it is zero. -/
theorem padLabel_pad (c : Dev nD) (n : Fin 262144) (r : Fin 6) :
    padLabel (opX m c) (opW m c) (opT m c) n (Fin.natAdd 10 r) = 0 :=
  Finset.sum_eq_zero fun v _ => by rw [th_pad m c _ v (.inl (Nat.le_add_right 10 r.val)), zero_mul]

/-- The kernel's result at `(n, k)`, over the padded tables. -/
theorem result_pad (c : Dev nD) (n : Fin 262144) (k : Fin 2) :
    result m c (ix2 n k) = ∑ r : Fin 16, opC m c (ix2 k r)
      * side (padLabel (opX m c) (opW m c) (opT m c) n r) := by
  unfold result
  pointwise
  rfl

/-- The kernel's second column: the share of the labels in the upper bin. -/
theorem result_upper (c : Dev nD) (n : Fin 262144) :
    result m c (ix2 n (1 : Fin 2)) = upper (argX m c) (argW m c) (argT m c) n := by
  rw [result_pad, Fin.sum_univ_add (a := 10) (b := 6), Finset.sum_eq_zero (s := (Finset.univ : Finset (Fin 6))) fun r _ => by rw [tab_upper_pad, zero_mul],
    add_zero]
  exact Finset.sum_congr rfl fun r _ => by rw [tab_upper, padLabel_row]

/-- The kernel's first column: the share of the labels in the lower bin. -/
theorem result_lower (c : Dev nD) (n : Fin 262144) :
    result m c (ix2 n (0 : Fin 2)) = lower (argX m c) (argW m c) (argT m c) n := by
  have hp : (∑ r : Fin 6, opC m c (ix2 (0 : Fin 2) (Fin.natAdd 10 r))
      * side (padLabel (opX m c) (opW m c) (opT m c) n (Fin.natAdd 10 r))) = 1 := by
    rw [Fin.sum_univ_succ, Finset.sum_eq_zero fun r _ => by rw [tab_lower_pad, zero_mul], add_zero, tab_one, padLabel_pad, side, if_pos le_rfl, mul_one]
  rw [result_pad, Fin.sum_univ_add (a := 10) (b := 6), hp]
  unfold lower
  refine congrArg (· + (1 : EReal)) ?_
  exact Finset.sum_congr rfl fun r _ => by rw [tab_lower, padLabel_row]

end Cert.KernelIdeal.Block

end
-- ==== Proof.Reference.lean ====
module

public import proofs.«01_k».proof.Proof.Gen.ReferenceIdeal.Run
public import proofs.«01_k».proof.Proof.Hist
public import Idealize.ShloMosaic.Lib.Pointwise

@[expose] public section

/-! What the reference computes, entry by entry. -/

set_option maxRecDepth 16384

noncomputable section

open Idealize.ShloMosaic Idealize.SL.Sem
open scoped BigOperators

namespace Cert.ReferenceIdeal.Value

open Cert.ReferenceIdeal Cert.ReferenceIdeal.Gen Cert.Hist

/-- The reference's composed term of the three arguments. -/
def term (x : FVec Ideal S262144x64 .f32) (w : FVec Ideal S64x100 .f32) (th : FVec Ideal S10x100 .f32) : FVec Ideal S262144x2 .f32 :=
  Host.divf (Host.reduceAdd (uitofp .f32 (cmpf .oeq (broadcastInDim S262144x10x2 ![0, 1, 2] bcast_S262144x10x1_S262144x10x2_0_1_2 (broadcastInDim S262144x10x1 ![0, 1] bcast_S262144x10_S262144x10x1_0_1 (minimumf (broadcastInDim S262144x10 ![] bcast_S_S262144x10 (id (constant S_ .f32 0x3F800000#32))) (maximumf (broadcastInDim S262144x10 ![] bcast_S_S262144x10 (id (constant S_ .f32 0x00000000#32))) (Host.floor (addf (transpose S262144x10 [1, 0] (Host.sign (Host.dotGeneral dot_S10x100_S100x262144_S10x262144_1_0_0_1_n_n none th (transpose S100x262144 [1, 0] (Host.sign (Host.dotGeneral dot_S262144x64_S64x100_S262144x100_1_0_0_1_n_n none x w)) transposes_S262144x100_S100x262144_1_0))) transposes_S10x262144_S262144x10_1_0) (broadcastInDim S262144x10 ![] bcast_S_S262144x10 (constant S_ .f32 0x3F800000#32)))))))) (broadcastInDim S262144x10x2 ![0, 1, 2] bcast_S1x1x2_S262144x10x2_0_1_2 (broadcastInDim S1x1x2 ![2] bcast_S2_S1x1x2_2 (sitofp .f32 (iotaInDim S2 32 0)))))) (constant S_ .f32 0x00000000#32) reducesTo_S262144x10x2_S262144x2_d1 h_S_) (broadcastInDim S262144x2 ![] bcast_S_S262144x2 (constant S_ .f32 0x41200000#32))

/-- The bin a label's sign lies in: one more than the sign, rounded down and clipped to zero and one. -/
def bin (l : EReal) : EReal := min 1 (max 0 (Ideal.liftRound Int.floor (Ideal.sign l + 1)))

/-- Whether a label lies in bin `k`, as a number. -/
def hit (k : Fin 2) (l : EReal) : EReal := FloatOps.uitofp (F := Ideal) .f32 (BitVec.ofBool (decide (bin l = FloatOps.sitofp (F := Ideal) .f32 (BitVec.ofNat 32 k.val))))

/-- The reference at `(n, k)`: the labels of sample `n` that lie in bin `k`, counted, over ten. -/
theorem term_apply (x : FVec Ideal S262144x64 .f32) (w : FVec Ideal S64x100 .f32) (th : FVec Ideal S10x100 .f32) (n : Fin 262144) (k : Fin 2) :
    term x w th (ix2 n k)
      = Ideal.div (∑ r : Fin 10, hit k (∑ v : Fin 100, th (ix2 r v) * Ideal.sign (score x w n v))) (Ideal.ofBits .f32 0x41200000#32) := by
  pointwise [term]
  have e1 : (id (constant (F := Ideal) S_ .f32 0x3F800000#32) ix0 : EReal) = 1 := Ideal.ofBits_one_f32
  have e0 : (id (constant (F := Ideal) S_ .f32 0x00000000#32) ix0 : EReal) = 0 := Ideal.ofBits_zero_f32
  rw [e1, e0]
  rfl

/-- A label below zero lies in the bin zero. -/
theorem bin_of_neg {l : EReal} (h : l < 0) : bin l = 0 := by
  unfold bin
  rw [Ideal.sign_of_neg h]
  have e : (-1 + 1 : EReal) = ((0 : ℝ) : EReal) := by
    rw [show (-1 : EReal) = ((-1 : ℝ) : EReal) by rw [EReal.coe_neg, EReal.coe_one], show (1 : EReal) = ((1 : ℝ) : EReal) from EReal.coe_one.symm, ← EReal.coe_add]
    norm_num
  rw [e]
  have f : Ideal.liftRound Int.floor ((0 : ℝ) : EReal) = 0 := by rw [Ideal.liftRound_coe]; simp
  rw [f, max_self]
  exact min_eq_right zero_le_one

/-- A label from zero on lies in the bin one. -/
theorem bin_of_nonneg {l : EReal} (h : 0 ≤ l) : bin l = 1 := by
  unfold bin
  have hf : (1 : EReal) ≤ Ideal.liftRound Int.floor (Ideal.sign l + 1) := by
    rcases h.eq_or_lt with h0 | hp
    · rw [← h0, Ideal.sign_zero, zero_add, show (1 : EReal) = ((1 : ℝ) : EReal) from EReal.coe_one.symm, Ideal.liftRound_coe]
      simp
    · rw [Ideal.sign_of_pos hp, show (1 + 1 : EReal) = ((2 : ℝ) : EReal) by
        rw [show (1 : EReal) = ((1 : ℝ) : EReal) from EReal.coe_one.symm, ← EReal.coe_add]; norm_num]
      have e : Ideal.liftRound Int.floor ((2 : ℝ) : EReal) = ((2 : ℝ) : EReal) := by rw [Ideal.liftRound_coe]; simp
      rw [e, show (1 : EReal) = ((1 : ℝ) : EReal) from EReal.coe_one.symm, EReal.coe_le_coe_iff]
      norm_num
  exact min_eq_left (hf.trans (le_max_right _ _))

/-- Whether a label lies in bin zero: one below zero, zero from zero on. -/
theorem hit_zero (l : EReal) : hit 0 l = ((if 0 ≤ l then 0 else 1 : ℝ) : EReal) := by
  unfold hit
  have e : FloatOps.sitofp (F := Ideal) .f32 (BitVec.ofNat 32 (0 : Fin 2).val) = (0 : EReal) := by
    show (((BitVec.ofNat 32 0).toInt : ℝ) : EReal) = 0
    simp
  rw [e]
  by_cases h : 0 ≤ l
  · rw [bin_of_nonneg h, if_pos h]
    show (((BitVec.ofBool (decide ((1 : EReal) = 0))).toNat : ℝ) : EReal) = _
    simp
  · rw [bin_of_neg (not_le.1 h), if_neg h]
    show (((BitVec.ofBool (decide ((0 : EReal) = 0))).toNat : ℝ) : EReal) = _
    simp

/-- Whether a label lies in bin one: zero below zero, one from zero on. -/
theorem hit_one (l : EReal) : hit 1 l = ((if 0 ≤ l then 1 else 0 : ℝ) : EReal) := by
  unfold hit
  have e : FloatOps.sitofp (F := Ideal) .f32 (BitVec.ofNat 32 (1 : Fin 2).val) = (1 : EReal) := by
    show (((BitVec.ofNat 32 1).toInt : ℝ) : EReal) = 1
    simp
  rw [e]
  by_cases h : 0 ≤ l
  · rw [bin_of_nonneg h, if_pos h]
    show (((BitVec.ofBool (decide ((1 : EReal) = 1))).toNat : ℝ) : EReal) = _
    simp
  · rw [bin_of_neg (not_le.1 h), if_neg h]
    show (((BitVec.ofBool (decide ((0 : EReal) = 1))).toNat : ℝ) : EReal) = _
    simp

end Cert.ReferenceIdeal.Value

end
-- ==== Proof.Equation.lean ====
module

public import proofs.«01_k».proof.Proof.KernelValue
public import proofs.«01_k».proof.Proof.Reference
public import proofs.«01_k».proof.Proof.Gen.Pre_no_abstention

@[expose] public section

/-! The two programs' results agree, entry by entry, where no score is zero. -/

set_option maxRecDepth 16384

noncomputable section

open Idealize.ShloMosaic
open scoped BigOperators

namespace Cert.Hist

open Cert.ReferenceIdeal.Value (term hit)

/-- Off zero a score's vote is its sign. -/
theorem sign_eq_vote {s : EReal} (h : s ≠ 0) : Ideal.sign s = vote s := by
  unfold vote
  rcases lt_or_gt_of_ne h with hn | hp
  · rw [Ideal.sign_of_neg hn, if_pos hn]
  · rw [Ideal.sign_of_pos hp, if_neg (not_lt.2 hp.le)]

/-- The side of zero as a real number. -/
theorem side_coe (l : EReal) : side l = ((if 0 ≤ l then 1 else 0 : ℝ) : EReal) := by
  unfold side
  split <;> simp

/-- A sum of reals, as extended reals, is the sum. -/
theorem coe_sum_ten (f : Fin 10 → ℝ) : (∑ r, (f r : EReal)) = ((∑ r, f r : ℝ) : EReal) :=
  (map_sum (⟨⟨Real.toEReal, EReal.coe_zero⟩, EReal.coe_add⟩ : ℝ →+ EReal) f Finset.univ).symm

/-- The upper share: the labels in bin one, counted, over ten. -/
theorem upper_eq (l : Fin 10 → EReal) :
    (∑ r : Fin 10, ((1 / 10 : ℝ) : EReal) * side (l r)) = Ideal.div (∑ r, hit 1 (l r)) (Ideal.ofBits .f32 0x41200000#32) := by
  simp only [side_coe, Cert.ReferenceIdeal.Value.hit_one, ← EReal.coe_mul, coe_sum_ten, Cert.KernelIdeal.Tables.bits_ten, Cert.KernelIdeal.Tables.div_ten]
  rw [← Finset.mul_sum]
  exact congrArg Real.toEReal (by ring)

/-- The lower share: the labels in bin zero, counted, over ten. -/
theorem lower_eq (l : Fin 10 → EReal) :
    (∑ r : Fin 10, ((-(1 / 10) : ℝ) : EReal) * side (l r)) + 1 = Ideal.div (∑ r, hit 0 (l r)) (Ideal.ofBits .f32 0x41200000#32) := by
  have e : ∀ r, (if 0 ≤ l r then 0 else 1 : ℝ) = 1 - (if 0 ≤ l r then 1 else 0 : ℝ) := fun r => by split <;> norm_num
  simp only [side_coe, Cert.ReferenceIdeal.Value.hit_zero, e, ← EReal.coe_mul, coe_sum_ten, Cert.KernelIdeal.Tables.bits_ten, Cert.KernelIdeal.Tables.div_ten]
  rw [← Finset.mul_sum, Finset.sum_sub_distrib, show (1 : EReal) = ((1 : ℝ) : EReal) from EReal.coe_one.symm, ← EReal.coe_add]
  refine congrArg Real.toEReal ?_
  rw [Finset.sum_const, Finset.card_univ, Fintype.card_fin, nsmul_eq_mul]
  push_cast
  ring

/-- Where the precondition holds no score is zero. -/
theorem score_ne_zero (x : X) (w : Wt) (th : Th) (h : Cert.Pre_no_abstention.fn (F := Ideal) x w th = fun _ => 1#1) (n : Fin 262144) (v : Fin 100) :
    score x w n v ≠ 0 := by
  have e := congrFun h (ix2 n v)
  unfold Cert.Pre_no_abstention.fn at e
  intro h0
  revert e
  pointwise
  unfold score at h0
  rw [h0]
  simp

/-- The reference's label is the label. -/
theorem ref_label (x : X) (w : Wt) (th : Th) (h : ∀ n v, score x w n v ≠ 0) (n : Fin 262144) (r : Fin 10) :
    (∑ v : Fin 100, th (ix2 r v) * Ideal.sign (score x w n v)) = label x w th n r :=
  Finset.sum_congr rfl fun v _ => by rw [sign_eq_vote (h n v)]

/-- The kernel's result is the reference's term of the same arguments, where no score is zero. -/
theorem result_eq (m : (ℓ : Loc Cert.KernelIdeal.nD Cert.KernelIdeal.τ Cert.KernelIdeal.sig) → Buf (Elt Ideal) ℓ) (c : Dev Cert.KernelIdeal.nD)
    (h : ∀ n v, score (Cert.KernelIdeal.Block.argX m c) (Cert.KernelIdeal.Block.argW m c) n v ≠ 0) :
    Cert.KernelIdeal.Block.result m c
      = term (Cert.KernelIdeal.Block.argX m c) (Cert.KernelIdeal.Block.argW m c) (Cert.KernelIdeal.Block.argT m c) := by
  funext i
  obtain ⟨n, k, rfl⟩ : ∃ (n : Fin 262144) (k : Fin 2), i = ix2 n k := ⟨i 0, i 1, by funext a; match a with | ⟨0, _⟩ => rfl | ⟨1, _⟩ => rfl⟩
  rw [Cert.ReferenceIdeal.Value.term_apply]
  simp only [ref_label _ _ _ h]
  match k with
  | ⟨0, _⟩ => exact (Cert.KernelIdeal.Block.result_lower m c n).trans (lower_eq _)
  | ⟨1, _⟩ => exact (Cert.KernelIdeal.Block.result_upper m c n).trans (upper_eq _)

end Cert.Hist

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_no_abstention
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m ρ _ => Cert.Kernel.Gen.frame m ρ

/-- The idealized kernel's frame. -/
theorem frame_ideal : Cert.quiescent_KernelIdeal := fun m ρ _ => Cert.KernelIdeal.Gen.frame m ρ

/-- The idealized kernel's frame under the precondition: the frame asks for none. -/
theorem frame_ideal_pre : Cert.quiescent_KernelIdeal_pre_no_abstention := fun m ρ _ => Cert.KernelIdeal.Gen.frame m ρ

/-- The idealized reference's run leaves its arguments as launched, and it declares no counter. -/
theorem frame_reference_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0 :=
  (θ_run Cert.ReferenceIdeal.defs _ _).mono (fun r h => ⟨fun c => ⟨(h c).2.1, (h c).2.2.1, (h c).2.2.2⟩,
      sem_eq_zero_of_no_sems (by decide) r.2⟩)
    (Cert.ReferenceIdeal.Value.run (F := Ideal) m ρ)

/-- The idealized reference's frame. -/
theorem frame_reference : Cert.quiescent_ReferenceIdeal := fun m ρ _ => frame_reference_run m ρ

/-- The idealized reference's frame under the precondition: the frame asks for none. -/
theorem frame_reference_pre : Cert.quiescent_ReferenceIdeal_pre_no_abstention := fun m ρ _ => frame_reference_run m ρ

/-- The one rewrite: one with the sign bit of a score is the choice of minus one or one by the score's sign. -/
theorem preserves : Cert.preserves_Kernel_KernelIdeal := IdealRules.sign_bit.statement Cert.KernelIdeal.S104x32768 .f32

/-- From arguments that agree and give no score of zero, both idealized programs end with the same result. -/
theorem algebraic : Cert.algebraic_KernelIdeal_ReferenceIdeal_pre_no_abstention := by
  intro m ρ m' ρ' hpre hagree
  refine ⟨fun c => Cert.KernelIdeal.Block.result m c, Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Block.result m c
  rw [Cert.Hist.result_eq m c (Cert.Hist.score_ne_zero _ _ _ (hpre c)), (hagree c).1, (hagree c).2.1, (hagree c).2.2]
  rfl

/-- Every claim. -/
theorem claim : Cert.Claim := ⟨Cert.Kernel.Gen.facts, Cert.KernelIdeal.Gen.facts, Cert.ReferenceIdeal.Gen.facts, Cert.Pre_no_abstention.Gen.facts,
  frame_kernel, frame_ideal, frame_ideal_pre, frame_reference, frame_reference_pre, preserves, algebraic⟩

end Cert.Proof

end
